-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x2432 : Shape := ⟨3, ![4, 256, 2432]⟩
abbrev S1216x3072 : Shape := ⟨2, ![1216, 3072]⟩
abbrev S19x3072 : Shape := ⟨2, ![19, 3072]⟩
abbrev S1024x2432 : Shape := ⟨2, ![1024, 2432]⟩
abbrev S1024x3072 : Shape := ⟨2, ![1024, 3072]⟩
abbrev S1216x512 : Shape := ⟨2, ![1216, 512]⟩
abbrev S19x512 : Shape := ⟨2, ![19, 512]⟩
abbrev S1024x512 : Shape := ⟨2, ![1024, 512]⟩
abbrev S2432x512 : Shape := ⟨2, ![2432, 512]⟩
abbrev S64x512 : Shape := ⟨2, ![64, 512]⟩
abbrev S1x512 : Shape := ⟨2, ![1, 512]⟩
abbrev S128x512 : Shape := ⟨2, ![128, 512]⟩
abbrev S4x256x3072 : Shape := ⟨3, ![4, 256, 3072]⟩

abbrev nBuf : Space → Nat
  | .hbm => 6
  | .vmem => 8
  | .smem => 0
  | _ => 0

abbrev bufTy : (tb : Table) → Fin (tcTables nBuf tb) → BufTy
  | .hbm, ⟨0, _⟩ => ⟨S4x256x2432, .bf16⟩
  | .hbm, ⟨1, _⟩ => ⟨S1216x3072, .i8⟩
  | .hbm, ⟨2, _⟩ => ⟨S19x3072, .bf16⟩
  | .hbm, ⟨3, _⟩ => ⟨S1024x2432, .bf16⟩
  | .hbm, ⟨4, _⟩ => ⟨S1024x3072, .bf16⟩
  | .hbm, ⟨5, _⟩ => ⟨S4x256x3072, .bf16⟩
  | .local _ .vmem, ⟨0, _⟩ => ⟨S1024x2432, .bf16⟩
  | .local _ .vmem, ⟨1, _⟩ => ⟨S1216x512, .i8⟩
  | .local _ .vmem, ⟨2, _⟩ => ⟨S1216x512, .i8⟩
  | .local _ .vmem, ⟨3, _⟩ => ⟨S19x512, .bf16⟩
  | .local _ .vmem, ⟨4, _⟩ => ⟨S19x512, .bf16⟩
  | .local _ .vmem, ⟨5, _⟩ => ⟨S1024x512, .bf16⟩
  | .local _ .vmem, ⟨6, _⟩ => ⟨S1024x512, .bf16⟩
  | .local _ .vmem, ⟨7, _⟩ => ⟨S2432x512, .bf16⟩
  | _, _ => ⟨S4x256x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1216x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S19x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x256x2432 : Shape := ⟨3, ![4, 256, 2432]⟩
abbrev S1216x3072 : Shape := ⟨2, ![1216, 3072]⟩
abbrev S19x3072 : Shape := ⟨2, ![19, 3072]⟩
abbrev S2 : Shape := ⟨1, ![2]⟩
abbrev S1x2x1 : Shape := ⟨3, ![1, 2, 1]⟩
abbrev S1216x1x3072 : Shape := ⟨3, ![1216, 1, 3072]⟩
abbrev S1216x2x3072 : Shape := ⟨3, ![1216, 2, 3072]⟩
abbrev S_ : Shape := ⟨0, ![]⟩
abbrev S19x128x3072 : Shape := ⟨3, ![19, 128, 3072]⟩
abbrev S19x1x3072 : Shape := ⟨3, ![19, 1, 3072]⟩
abbrev S2432x3072 : Shape := ⟨2, ![2432, 3072]⟩
abbrev S1024x2432 : Shape := ⟨2, ![1024, 2432]⟩
abbrev S1024x3072 : Shape := ⟨2, ![1024, 3072]⟩
abbrev S4x256x3072 : Shape := ⟨3, ![4, 256, 3072]⟩

abbrev nBuf : Space → Nat
  | .hbm => 26
  | .vmem => 0
  | .smem => 0
  | _ => 0

abbrev bufTy : (tb : Table) → Fin (tcTables nBuf tb) → BufTy
  | .hbm, ⟨0, _⟩ => ⟨S4x256x2432, .bf16⟩
  | .hbm, ⟨1, _⟩ => ⟨S1216x3072, .i8⟩
  | .hbm, ⟨2, _⟩ => ⟨S19x3072, .bf16⟩
  | .hbm, ⟨3, _⟩ => ⟨S2, .i32⟩
  | .hbm, ⟨4, _⟩ => ⟨S1x2x1, .i32⟩
  | .hbm, ⟨5, _⟩ => ⟨S1216x3072, .i32⟩
  | .hbm, ⟨6, _⟩ => ⟨S1216x1x3072, .i32⟩
  | .hbm, ⟨7, _⟩ => ⟨S1216x2x3072, .i32⟩
  | .hbm, ⟨8, _⟩ => ⟨S1216x2x3072, .i32⟩
  | .hbm, ⟨9, _⟩ => ⟨S1216x2x3072, .i32⟩
  | .hbm, ⟨10, _⟩ => ⟨S_, .i32⟩
  | .hbm, ⟨11, _⟩ => ⟨S1216x2x3072, .i32⟩
  | .hbm, ⟨12, _⟩ => ⟨S1216x2x3072, .i32⟩
  | .hbm, ⟨13, _⟩ => ⟨S1216x2x3072, .bf16⟩
  | .hbm, ⟨14, _⟩ => ⟨S_, .bf16⟩
  | .hbm, ⟨15, _⟩ => ⟨S1216x2x3072, .bf16⟩
  | .hbm, ⟨16, _⟩ => ⟨S1216x2x3072, .bf16⟩
  | .hbm, ⟨17, _⟩ => ⟨S19x128x3072, .bf16⟩
  | .hbm, ⟨18, _⟩ => ⟨S19x1x3072, .bf16⟩
  | .hbm, ⟨19, _⟩ => ⟨S19x128x3072, .bf16⟩
  | .hbm, ⟨20, _⟩ => ⟨S19x128x3072, .bf16⟩
  | .hbm, ⟨21, _⟩ => ⟨S2432x3072, .bf16⟩
  | .hbm, ⟨22, _⟩ => ⟨S1024x2432, .bf16⟩
  | .hbm, ⟨23, _⟩ => ⟨S1024x3072, .f32⟩
  | .hbm, ⟨24, _⟩ => ⟨S1024x3072, .bf16⟩
  | .hbm, ⟨25, _⟩ => ⟨S4x256x3072, .bf16⟩
  | _, _ => ⟨S4x256x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Code.lean ====
/- The arithmetic of ONE four-bit code. A byte holds two codes, the low one in bits 0..3 and the high one in bits 4..7.
   The kernel puts each code into the low bits of a 16-bit word whose other bits are those of the bf16 number 128, reads the
   word as a bf16 number and subtracts 136; the reference turns the code into a number and subtracts 8. Over the extended
   reals the two are the same number. -/
module

public import Idealize.ShloMosaic.Lib.Pointwise

@[expose] public section

noncomputable section

namespace Cert.Code

open Idealize.ShloMosaic

/-- Code `k` (0 or 1) of the byte `b`, as a 32-bit word: the byte shifted right by `4 k`, its low four bits. -/
def code (b : BitVec 8) (k : Nat) : BitVec 32 := ((b.setWidth 32) >>> (4 * k)) &&& 15#32

/-- The 32-bit word that the kernel makes of the byte `b`: code 0 in the low half, code 1 in the high half, each below the
    leading bits of the bf16 number 128. -/
def pair (b : BitVec 8) : BitVec 32 :=
  ((b.setWidth 32 ||| (b.setWidth 32) <<< 12) &&& 983055#32) ||| 1124090624#32

/-- Half `k` of the pair is the word `0x4300` with code `k` in its low bits. -/
theorem pair_half : ∀ (b : BitVec 8) (k : Fin 2),
    (pair b).extractLsb' (16 * k.val) 16 = 0x4300#16 + (code b k.val).setWidth 16 := by
  unfold pair code; decide +kernel

/-- A code is below 16. -/
theorem code_lt (b : BitVec 8) (k : Nat) : (code b k).toNat < 16 := by
  unfold code
  rw [BitVec.toNat_and]
  exact Nat.lt_succ_of_le Nat.and_le_right

/-- The bf16 number whose bits are `0x4300 + n`, for `n` below 16, is `128 + n`. -/
theorem ofBits_code (n : Nat) (hn : n < 16) :
    Ideal.ofBits .bf16 (0x4300#16 + BitVec.ofNat 16 n) = ((128 + n : ℝ) : EReal) := by
  interval_cases n <;> simp [Ideal.ofBits, Ideal.ieee, -EReal.coe_mul, -EReal.coe_add] <;> norm_num

/-- The bf16 constant the kernel subtracts is 136. -/
theorem ofBits_136 : Ideal.ofBits .bf16 0x4308#16 = ((136 : ℝ) : EReal) := by
  simp [Ideal.ofBits, Ideal.ieee, -EReal.coe_mul, -EReal.coe_add]

/-- The bf16 constant the reference subtracts is 8. -/
theorem ofBits_8 : Ideal.ofBits .bf16 0x4100#16 = ((8 : ℝ) : EReal) := by
  simp [Ideal.ofBits, Ideal.ieee, -EReal.coe_mul, -EReal.coe_add]; norm_num

/-- The kernel's number for code `k` of `b` is the code minus 8. -/
theorem half_sub (b : BitVec 8) (k : Nat) (hk : k < 2) :
    Ideal.ofBits .bf16 ((pair b).extractLsb' (16 * k) 16) - Ideal.ofBits .bf16 0x4308#16
      = (((code b k).toNat : ℝ) : EReal) - Ideal.ofBits .bf16 0x4100#16 := by
  have h := pair_half b ⟨k, hk⟩
  dsimp only at h
  rw [h, show (code b k).setWidth 16 = BitVec.ofNat 16 (code b k).toNat from rfl, ofBits_code _ (code_lt b k), ofBits_136,
    ofBits_8, ← EReal.coe_sub, ← EReal.coe_sub]
  congr 1; ring

end Cert.Code

end
-- ==== Proof.Spec.lean ====
/- The dequantised weights and the layer's result as functions of the packed codes, the scales and the activations, at an
   index. -/
module

public import proofs.«01_k».proof.Proof.Code

@[expose] public section

noncomputable section

namespace Cert.Spec

open Idealize.ShloMosaic Cert.Code

variable {N : ℕ}

/-- The weight of input feature `r` and output feature `c` (of `N`): code `r % 2` of the packed byte of row `r / 2`, minus 8,
    times the scale of the group of 128 rows that `r` lies in. -/
def weight (q : (⟨2, ![1216, N]⟩ : Shape).Idx → BitVec 8) (s : (⟨2, ![19, N]⟩ : Shape).Idx → EReal) (r : Fin 2432) (c : Fin N) :
    EReal :=
  ((((code (q (ix2 ⟨r / 2, by omega⟩ c)) (r.val % 2)).toNat : ℝ) : EReal) - Ideal.ofBits .bf16 0x4100#16)
    * s (ix2 ⟨r / 128, by omega⟩ c)

/-- Row `k` of the 1024 rows of activations times column `c` of the weights. -/
def out (x : (⟨2, ![1024, 2432]⟩ : Shape).Idx → EReal) (q : (⟨2, ![1216, N]⟩ : Shape).Idx → BitVec 8)
    (s : (⟨2, ![19, N]⟩ : Shape).Idx → EReal) (k : Fin 1024) (c : Fin N) : EReal :=
  ∑ r : Fin 2432, x (ix2 k r) * weight q s r c

/-- Column `n` of the result depends on column `n` of the codes and of the scales alone: over arrays that agree on a column
    each, the results agree there. -/
theorem out_congr {M : ℕ} (x : (⟨2, ![1024, 2432]⟩ : Shape).Idx → EReal)
    (q : (⟨2, ![1216, N]⟩ : Shape).Idx → BitVec 8) (s : (⟨2, ![19, N]⟩ : Shape).Idx → EReal)
    (q' : (⟨2, ![1216, M]⟩ : Shape).Idx → BitVec 8) (s' : (⟨2, ![19, M]⟩ : Shape).Idx → EReal) (k : Fin 1024) (n : Fin N) (n' : Fin M)
    (hq : ∀ a, q (ix2 a n) = q' (ix2 a n')) (hs : ∀ a, s (ix2 a n) = s' (ix2 a n')) : out x q s k n = out x q' s' k n' := by
  unfold out weight
  simp only [hq, hs]

end Cert.Spec

end
-- ==== Proof.RefValue.lean ====
/- What the reference computes: its result is the reshape of an array that holds `Spec.out` at every index. -/
module

public import proofs.«01_k».proof.Proof.Spec
public import proofs.«01_k».proof.Proof.Gen.ReferenceIdeal.Run

@[expose] public section

set_option maxRecDepth 16384

noncomputable section

namespace Cert.ReferenceIdeal.RefValue

open Cert.ReferenceIdeal Cert.ReferenceIdeal.Gen Idealize.ShloMosaic Cert.Spec

/-- The reference's shift amounts, 0 and 4: shifting a word by entry `k` is shifting it right by `4 k`. -/
theorem shift_amount (x : BitVec 32) (k : Fin 2) :
    IntOp.shrui .host x (lit0 (S2.rowMajor (ix1 k))) = x >>> (4 * k.val) := by
  fin_cases k <;> rfl

/-- The reference's array before its last reshape, as its operations compose it from the 1024 rows of activations `x`, the
    packed codes `q` and the scales `s`. -/
def flat (x : Vec Ideal S1024x2432 .bf16) (q : Vec Ideal S1216x3072 .i8) (s : Vec Ideal S19x3072 .bf16) :
    Vec Ideal S1024x3072 .bf16 :=
  (truncf .bf16 (Host.dotGeneral (F := Ideal) (φ₁ := .bf16) (φ₂ := .bf16) dot_S1024x2432_S2432x3072_S1024x3072_1_0_0_1_n_n none x (shapeCast S2432x3072 (mulf (F := Ideal) (φ := .bf16) (shapeCast _ (subf (F := Ideal) (φ := .bf16) (uitofp (F := Ideal) .bf16 (andi (Host.shrui (broadcastInDim S1216x2x3072 ![0, 1, 2] bcast_S1216x1x3072_S1216x2x3072_0_1_2 (broadcastInDim S1216x1x3072 ![0, 2] bcast_S1216x3072_S1216x1x3072_0_2 (extui 32 q natLt_8_32))) (broadcastInDim S1216x2x3072 ![0, 1, 2] bcast_S1x2x1_S1216x2x3072_0_1_2 (broadcastInDim S1x2x1 ![1] bcast_S2_S1x2x1_1 ((fun i => lit0 (S2.rowMajor i)))))) (broadcastInDim S1216x2x3072 ![] bcast_S_S1216x2x3072 (constantI S_ 32 15#32)))) (broadcastInDim S1216x2x3072 ![] bcast_S_S1216x2x3072 (constant (F := Ideal) S_ .bf16 0x4100#16))) shapeCasts_S1216x2x3072_S19x128x3072) (broadcastInDim S19x128x3072 ![0, 1, 2] bcast_S19x1x3072_S19x128x3072_0_1_2 (broadcastInDim S19x1x3072 ![0, 2] bcast_S19x3072_S19x1x3072_0_2 s))) shapeCasts_S19x128x3072_S2432x3072 : Vec Ideal S2432x3072 .bf16)) bitsLt_bf16_f32)

/-- That array at an index: a row of activations times a column of dequantised weights. -/
theorem flat_apply (x : Vec Ideal S1024x2432 .bf16) (q : Vec Ideal S1216x3072 .i8) (s : Vec Ideal S19x3072 .bf16)
    (k : Fin 1024) (c : Fin 3072) : flat x q s (ix2 k c) = out x q s k c := by
  unfold flat out weight Code.code
  pointwise
  refine Finset.sum_congr rfl fun r _ => ?_
  rw [shift_amount]
  have h1 : r.val / 128 * 64 + r.val % 128 / 2 = r.val / 2 := by omega
  have h2 : r.val % 128 % 2 = r.val % 2 := by omega
  simp only [h1, h2]
  rfl

end Cert.ReferenceIdeal.RefValue

end
-- ==== Proof.Block.lean ====
/- What one grid point computes: the decoded scratch holds `Spec.weight` of the point's blocks of codes and scales, and the
   block it stores is `Spec.out` of the activations and those blocks. -/
module

public import proofs.«01_k».proof.Proof.Spec
public import proofs.«01_k».proof.Proof.Gen.KernelIdeal.Frame
public import Idealize.ShloMosaic.Lib.BitcastPair
public import Idealize.ShloMosaic.Lib.Pipeline.ReadBack

@[expose] public section

set_option maxRecDepth 16384

noncomputable section

namespace Cert.KernelIdeal.Block

open Cert.KernelIdeal Cert.KernelIdeal.Gen Idealize.ShloMosaic Cert.Spec

/-- The kernel's pairing of the codes of one group's bytes, at an index: row `r` takes half `r % 2` of the pair made of the
    byte of row `r / 2`. -/
theorem halves (x : S64x512.Idx → BitVec 32) (r : Fin 128) (c : Fin 512) :
    bitcast S128x512 16 x bitcasts_S64x512_w32_S128x512_w16 (ix2 r c)
      = (x (ix2 ⟨r / 2, by omega⟩ c)).extractLsb' (16 * (r.val % 2)) 16 := by
  rw [bitcast_32_16]
  congr 2
  funext a
  fin_cases a
  · exact Fin.ext (Shape.Bitcasts.srcIdx_row _ _ _ _ _ rfl)
  · exact Fin.ext (Shape.Bitcasts.srcIdx_other _ _ _ _ _ (by decide))

/-- One group's decoded rows at an index. -/
theorem group_apply (v : Vec Ideal S64x512 .i8) (s : Vec Ideal S1x512 .bf16) (r : Fin 128) (c : Fin 512) :
    k0_pay3 v s (ix2 r c)
      = ((((Code.code (v (ix2 ⟨r / 2, by omega⟩ c)) (r.val % 2)).toNat : ℝ) : EReal) - Ideal.ofBits .bf16 0x4100#16)
        * s (ix2 0 c) := by
  rw [← Code.half_sub _ _ (Nat.mod_lt _ (by decide))]
  unfold k0_pay3
  pointwise [halves]
  rfl

variable (c : Dev nD) (arg2 : Memref sig .tc .vmem S1216x512 .i8) (harg2 : arg2.IsWhole)
  (arg3 : Memref sig .tc .vmem S19x512 .bf16) (harg3 : arg3.IsWhole)
  (x1 : Vec Ideal S1216x512 .i8) (x2 : Vec Ideal S19x512 .bf16)

/-- The decoded weights of a block, as a function of the scratch's index. -/
def weights : S2432x512.Idx → EReal := fun y => weight x1 x2 (y 0) (y 1)

/-- The 64 rows of codes of group `g` lie inside the codes. -/
theorem bytes_inb (g : ℕ) (hg : g < 19) : ∀ a, (![64 * g, 0] : Fin 2 → ℕ) a + S64x512.size a ≤ S1216x512.size a :=
  Fin.forall_fin_two.mpr ⟨show 64 * g + 64 ≤ 1216 by omega, le_refl 512⟩
/-- The row of scales of group `g` lies inside the scales. -/
theorem scale_inb (g : ℕ) (hg : g < 19) : ∀ a, (![g, 0] : Fin 2 → ℕ) a + S1x512.size a ≤ S19x512.size a :=
  Fin.forall_fin_two.mpr ⟨show g + 1 ≤ 19 by omega, le_refl 512⟩
/-- The 128 decoded rows of group `g` lie inside the scratch. -/
theorem rows_inb (g : ℕ) (hg : g < 19) : ∀ a, (![128 * g, 0] : Fin 2 → ℕ) a + S128x512.size a ≤ S2432x512.size a :=
  Fin.forall_fin_two.mpr ⟨show 128 * g + 128 ≤ 2432 by omega, le_refl 512⟩

/-- An index of `n` whole rows from row `o` on, in the array. -/
theorem rows_emb {R n N : ℕ} (o : ℕ)
    (inb : ∀ a, (![o, 0] : Fin 2 → ℕ) a + (![n, N] : Fin 2 → ℕ) a ≤ (⟨2, ![R, N]⟩ : Shape).size a) (a : Fin n) (b : Fin N) :
    (Rect.unit (s := ⟨2, ![R, N]⟩) ![o, 0] ![n, N] inb).emb (ix2 a b)
      = ix2 ⟨o + a, lt_of_lt_of_le (Nat.add_lt_add_left a.isLt o) (inb 0)⟩ b := by
  funext d
  fin_cases d
  · exact Fin.ext (show o + 1 * a.val = o + a.val by omega)
  · exact Fin.ext (show 0 + 1 * b.val = b.val by omega)

/-- Group `g`, decoded from rows `64 g ..` of the codes and row `g` of the scales, is rows `128 g ..` of the weights. -/
theorem group_store (g : ℕ) (hg : g < 19) (y : S128x512.Idx) :
    k0_pay3 (View.readAt (Elt Ideal) arg2.view (Rect.unit (s := S1216x512) ![64 * g, 0] S64x512.size (bytes_inb g hg)).toLoadRect (harg2.unread x1))
        (View.readAt (Elt Ideal) arg3.view (Rect.unit (s := S19x512) ![g, 0] S1x512.size (scale_inb g hg)).toLoadRect (harg3.unread x2)) y
      = weights x1 x2 ((Rect.unit (s := S2432x512) ![128 * g, 0] S128x512.size (rows_inb g hg)).emb y) := by
  obtain ⟨r, k, rfl⟩ : ∃ (r : Fin 128) (k : Fin 512), y = ix2 r k := ⟨y 0, y 1, by funext a; fin_cases a <;> rfl⟩
  rw [group_apply, View.readAt_eq_ld, View.readAt_eq_ld, harg2.read_unread, harg3.read_unread]
  unfold weights weight View.ld
  have e1 := rows_emb (64 * g) (bytes_inb g hg) ⟨r / 2, by omega⟩ k
  have e2 := rows_emb g (scale_inb g hg) 0 k
  have e3 := rows_emb (128 * g) (rows_inb g hg) r k
  have h1 : (128 * g + r.val) / 2 = 64 * g + r.val / 2 := by omega
  have h2 : (128 * g + r.val) % 2 = r.val % 2 := by omega
  have h3 : (128 * g + r.val) / 128 = g := by omega
  rw [e3]
  refine congrArg₂ (· * ·) (congrArg (fun t : BitVec 32 => ((t.toNat : ℝ) : EReal) - _) ?_) ?_
  · refine congrArg₂ (fun u v => Code.code (x1 u) v) (e1.trans ?_) h2.symm
    exact congrArg (fun u => ix2 u k) (Fin.ext h1.symm)
  · refine congrArg x2 (e2.trans ?_)
    exact congrArg (fun u => ix2 u k) (Fin.ext h3.symm)

/-- What the stores leave in the scratch: the decoded weights. -/
theorem scratch_apply (y : S2432x512.Idx) :
    View.canon (kernelRun0_A.sl.HS0_19 (F := Ideal) c arg2 harg2 arg3 harg3 x1 x2) y = weights x1 x2 y := by
  have h : View.PiecesOf (weights x1 x2) (kernelRun0_A.sl.HS0_19 (F := Ideal) c arg2 harg2 arg3 harg3 x1 x2) := by
    have s := group_store arg2 harg2 arg3 harg3 x1 x2
    exact ⟨s 18 (by decide), s 17 (by decide), s 16 (by decide), s 15 (by decide),
      s 14 (by decide), s 13 (by decide), s 12 (by decide), s 11 (by decide), s 10 (by decide),
      s 9 (by decide), s 8 (by decide), s 7 (by decide), s 6 (by decide), s 5 (by decide),
      s 4 (by decide), s 3 (by decide), s 2 (by decide), s 1 (by decide), s 0 (by decide),
      trivial⟩
  have hc := View.cover_of_tiledL (kernelRun0_A.sl.HS0_19 (F := Ideal) c arg2 harg2 arg3 harg3 x1 x2) S128x512.size
    (by sl_kernel_rfl) y
  have := View.canon_append_of_piecesOf (weights x1 x2) [] _ h y hc
  rwa [List.append_nil] at this

/-- The block a point stores: its rows of activations times its columns of decoded weights. -/
theorem block_apply (i : grid0.Coords) (arg1 : Memref sig .tc .vmem S1024x2432 .bf16) (harg1 : arg1.IsWhole)
    (arg4 : Memref sig .tc .vmem S1024x512 .bf16) (harg4 : arg4.IsWhole) (arg5 : Memref sig .tc .vmem S2432x512 .bf16)
    (harg5 : arg5.IsWhole) (x0 : Vec Ideal S1024x2432 .bf16) (k : Fin 1024) (n : Fin 512) :
    out0_A_3 (F := Ideal) c i arg1 harg1 arg2 harg2 arg3 harg3 arg4 harg4 arg5 harg5 x0 x1 x2 (ix2 k n) = out x0 x1 x2 k n := by
  unfold out0_A_3
  rw [View.read_writes_junk_eq_canon]
  unfold kernelRun0_A
  dsimp only [kernelRun0_A.sl.v363]
  rw [View.canon_unit_zero (by funext a; fin_cases a <;> rfl), View.readCov_eq_canon']
  unfold k0_pay2 out
  pointwise
  refine Finset.sum_congr rfl fun r _ => ?_
  rw [View.readAt_eq_ld, harg1.read_unread, scratch_apply]
  refine congrArg (· * _) (congrArg x0 ((rows_emb 0 inb_S1024x2432_S1024x2432_0_0 k r).trans ?_))
  exact congrArg (fun u => ix2 u r) (Fin.ext (Nat.zero_add _))

end Cert.KernelIdeal.Block

end
-- ==== Proof.KernelValue.lean ====
/- What the kernel leaves in its array and in its result: six blocks of 512 columns, each `Spec.out` there, so the array is
   `Spec.out` at every index, and the result is the array's reshape. -/
module

public import proofs.«01_k».proof.Proof.Block
public import Idealize.ShloMosaic.Lib.Pipeline.ValueKit.Geometry
public import Idealize.ShloMosaic.Lib.Claim

@[expose] public section

set_option maxRecDepth 16384

noncomputable section

namespace Cert.KernelIdeal.RefValue

open Cert.KernelIdeal Cert.KernelIdeal.Gen Idealize.ShloMosaic Idealize.ShloMosaic.TcCoe Cert.Spec

variable (m : (ℓ : Loc nD τ sig) → Buf (Elt Ideal) ℓ)

/-- The 1024 rows of activations: the first argument reshaped. -/
def rows (c : Dev nD) : Vec Ideal S1024x2432 .bf16 :=
  shapeCast S1024x2432 (m ((c : Thread nD τ).loc main_arg0)) shapeCasts_S4x256x2432_S1024x2432

/-- The region finds the rows of activations in its first array. -/
theorem entry_rows (c : Dev nD) : V m c main_v0 = rows m c := by
  show StableHlo.after (hostOps0 ++ []) (fun b => m (c, b)) (Proc.tc.devRef main_v0) = rows m c
  simp only [hostOps0, List.append_nil, StableHlo.after_cons, StableHlo.after_nil]
  after_results_steps
  rfl

/-- The activations' block at a point is the whole array. -/
theorem index0 : ∀ t : Fin cfg0.N, win0_0.index t = ![0, 0] := (by decide +kernel : ∀ t : Fin grid0.N, _)
/-- The codes' block at point `t` is column block `t`. -/
theorem index1 : ∀ t : Fin cfg0.N, win0_1.index t = ![0, t.val] := (by decide +kernel : ∀ t : Fin grid0.N, _)
/-- The scales' block at point `t` is column block `t`. -/
theorem index2 : ∀ t : Fin cfg0.N, win0_2.index t = ![0, t.val] := (by decide +kernel : ∀ t : Fin grid0.N, _)
/-- The result's block at point `t` is column block `t`. -/
theorem index3 : ∀ t : Fin cfg0.N, win0_3.index t = ![0, t.val] := (by decide +kernel : ∀ t : Fin grid0.N, _)

/-- Column `n` of block `t` is a column of the array. -/
theorem column_lt (t : Fin cfg0.N) (n : Fin 512) : 512 * t.val + n.val < 3072 := by
  have h : t.val < 6 := N_0 ▸ t.isLt
  omega

/-- A point's activations: all the rows. -/
theorem block0 (c : Dev nD) (t : Fin cfg0.N) : (iblk m c 0 t : S1024x2432.Idx → EReal) = rows m c := by
  funext y
  rw [← entry_rows]
  blk_simp [iblk]
  refine congrArg (V m c main_v0) ?_
  blk_ext [index0]

/-- A point's codes: its 512 columns. -/
theorem block1 (c : Dev nD) (t : Fin cfg0.N) (a : Fin 1216) (n : Fin 512) :
    (iblk m c 1 t : S1216x512.Idx → BitVec 8) (ix2 a n)
      = (m ((c : Thread nD τ).loc main_arg1) : S1216x3072.Idx → BitVec 8) (ix2 a ⟨512 * t.val + n.val, column_lt t n⟩) := by
  rw [← V_main_arg1 m c]
  blk_simp [iblk]
  refine congrArg (V m c main_arg1) ?_
  blk_ext [index1]

/-- A point's scales: its 512 columns. -/
theorem block2 (c : Dev nD) (t : Fin cfg0.N) (a : Fin 19) (n : Fin 512) :
    (iblk m c 2 t : S19x512.Idx → EReal) (ix2 a n)
      = (m ((c : Thread nD τ).loc main_arg2) : S19x3072.Idx → EReal) (ix2 a ⟨512 * t.val + n.val, column_lt t n⟩) := by
  rw [← V_main_arg2 m c]
  blk_simp [iblk]
  refine congrArg (V m c main_arg2) ?_
  blk_ext [index2]

/-- The kernel's array after its six points. -/
theorem array (c : Dev nD) : (dats m 0 c).arrAt 3 cfg0.N
    = (fun i => out (rows m c) (m ((c : Thread nD τ).loc main_arg1)) (m ((c : Thread nD τ).loc main_arg2)) (i 0) (i 1) :
        S1024x3072.Idx → EReal) := by
  refine (dats m 0 c).arrAt_eq_of_covers 3 _ (by decide +kernel) fun t hf y => ?_
  blk_simp
  rw [after0_3]
  obtain ⟨k, n, rfl⟩ : ∃ (k : Fin 1024) (n : Fin 512), y = ix2 k n := ⟨y 0, y 1, by funext a; fin_cases a <;> rfl⟩
  have e0 : (win0_3.blk t).view.emb (ix2 k n) 0 = k := Fin.ext (by blk_simp [index3])
  have e1 : (win0_3.blk t).view.emb (ix2 k n) 1 = ⟨512 * t.val + n.val, column_lt t n⟩ :=
    Fin.ext (by blk_simp [index3]; dsimp only; omega)
  rw [e0, e1]
  unfold outsAt0
  refine (Block.block_apply c _ _ _ _ _ _ _ _ _ _ _ _ _ _ k n).trans ?_
  rw [block0]
  exact out_congr _ _ _ _ _ k n _ (fun a => block1 m c t a n) (fun a => block2 m c t a n)

/-- The kernel's result is its array reshaped. -/
theorem result (c : Dev nD) : Pipeline.afterTail₀ cfgs (dats m) 0 (V0 m) [hostOps1] c main_v2
    = shapeCast S4x256x3072 ((dats m 0 c).arrAt 3 cfg0.N) shapeCasts_S1024x3072_S4x256x3072 := by
  show StableHlo.after (hostOps1 ++ []) _ (Proc.tc.devRef main_v2) = _
  simp only [hostOps1, List.append_nil, StableHlo.after_cons, StableHlo.after_nil]
  after_results_steps
  exact congrArg (fun A => shapeCast S4x256x3072 A shapeCasts_S1024x3072_S4x256x3072)
    (Pipeline.withArrays_arr spec0 winFacts0.arr_inj c (V0 m c) (fun w => (dats m 0 c).arrAt w cfg0.N) 3)

end Cert.KernelIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.KernelValue
public import Idealize.ShloMosaic.Adequacy
public import Idealize.ShloMosaic.Init
public import Idealize.ShloMosaic.Lib.Claim
public import Idealize.ShloMosaic.Lib.StableHlo.RunHlo
public import Idealize.ShloMosaic.Lib.Quiescent

@[expose] public section

noncomputable section

namespace Cert.Proof

open Idealize.ShloMosaic Idealize.SL.Sem Cert.Kernel

/-- The reference leaves its arguments as launched, and it declares no semaphore. -/
theorem frame_ReferenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's result is the reference's composed term of the same arguments: both are the reshape of one array, which holds
    a row of activations times a column of dequantised weights at every index. -/
theorem result_eq (m : (ℓ : Loc Cert.KernelIdeal.nD Cert.KernelIdeal.τ Cert.KernelIdeal.sig) → Buf (Elt Ideal) ℓ)
    (c : Dev Cert.KernelIdeal.nD) :
    Pipeline.afterTail₀ Cert.KernelIdeal.cfgs (Cert.KernelIdeal.Gen.dats m) 0 (Cert.KernelIdeal.Gen.V0 m)
        [Cert.KernelIdeal.Gen.hostOps1] c Cert.KernelIdeal.main_v2
      = shapeCast Cert.KernelIdeal.S4x256x3072
          (Cert.ReferenceIdeal.RefValue.flat (Cert.KernelIdeal.RefValue.rows m c)
            (m (c.tc.loc Cert.KernelIdeal.main_arg1)) (m (c.tc.loc Cert.KernelIdeal.main_arg2)))
          Cert.KernelIdeal.Gen.shapeCasts_S1024x3072_S4x256x3072 := by
  rw [Cert.KernelIdeal.RefValue.result, Cert.KernelIdeal.RefValue.array]
  refine congrArg (fun A => shapeCast Cert.KernelIdeal.S4x256x3072 A _) (funext fun i => ?_)
  obtain ⟨k, n, rfl⟩ : ∃ (k : Fin 1024) (n : Fin 3072), i = ix2 k n := ⟨i 0, i 1, by funext a; fin_cases a <;> rfl⟩
  exact (Cert.ReferenceIdeal.RefValue.flat_apply _ _ _ k n).symm

/-- From arguments that agree, the kernel's result and the reference's are one array. -/
theorem algebraic : Cert.algebraic_KernelIdeal_ReferenceIdeal := by
  intro m g m' g' _ hagree
  refine ⟨fun c => Pipeline.afterTail₀ Cert.KernelIdeal.cfgs (Cert.KernelIdeal.Gen.dats m) 0 (Cert.KernelIdeal.Gen.V0 m)
        [Cert.KernelIdeal.Gen.hostOps1] c Cert.KernelIdeal.main_v2, ?_, ?_⟩
  · run_from Cert.KernelIdeal.Gen.run_main m g
    exact Cert.KernelIdeal.Gen.W_main_arg0 m _ c
  · refine (θ_run Cert.ReferenceIdeal.defs _ _).mono (fun _ h c => ⟨(h c).1.trans ?_, (h c).2⟩)
      (Cert.ReferenceIdeal.Value.run (F := Ideal) m' g')
    rw [(hagree c).1, (hagree c).2.1, (hagree c).2.2]
    exact (result_eq m c).symm

/-- Every claim: the three frames, the idealization's preservation (it rewrote nothing) and the equation. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ReferenceIdeal,
  trivial, algebraic⟩

end Cert.Proof

end
